-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x3 : Shape := ⟨3, ![4, 1024, 3]⟩
abbrev S4x16384x3 : Shape := ⟨3, ![4, 16384, 3]⟩
abbrev S4x16384 : Shape := ⟨2, ![4, 16384]⟩
abbrev S_ : Shape := ⟨0, ![]⟩

class Facts : Prop where
  bcast_S_S4x1024x3 : S_.BroadcastsInDim S4x1024x3 (![] : Fin 0 → Fin S4x1024x3.rank)
  reducesTo_S4x1024x3_S_d0_1_2 : S4x1024x3.ReducesTo [0, 1, 2] S_
  h_S_ : 0 < S_.numel
  bcast_S_S4x16384x3 : S_.BroadcastsInDim S4x16384x3 (![] : Fin 0 → Fin S4x16384x3.rank)
  reducesTo_S4x16384x3_S_d0_1_2 : S4x16384x3.ReducesTo [0, 1, 2] S_

variable [Facts]

def fn {F : FTy → Type} [FloatOps F] (main_arg0 : FVec F S4x1024x3 .f32) (main_arg1 : FVec F S4x16384x3 .f32) (main_arg2 : IVec S4x16384 32) : IVec S_ 1 :=
  let main_v0 : FVec F S4x1024x3 .f32 := Host.absf main_arg0
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  let main_c : IVec S_ 1 := constantI S_ 1 1#1
  let main_v3 : IVec S_ 1 := (fun x v => Host.reduce IntOp.andi x v reducesTo_S4x1024x3_S_d0_1_2 h_S_) main_v2 main_c
  let main_v4 : FVec F S4x16384x3 .f32 := Host.absf main_arg1
  let main_cst_0 : FVec F S_ .f32 := constant S_ .f32 0x7F800000#32
  let main_v5 : FVec F S4x16384x3 .f32 := broadcastInDim S4x16384x3 ![] bcast_S_S4x16384x3 main_cst_0
  let main_v6 : IVec S4x16384x3 1 := cmpf .olt main_v4 main_v5
  let main_c_1 : IVec S_ 1 := constantI S_ 1 1#1
  let main_v7 : IVec S_ 1 := (fun x v => Host.reduce IntOp.andi x v reducesTo_S4x16384x3_S_d0_1_2 h_S_) main_v6 main_c_1
  let main_v8 : IVec S_ 1 := andi main_v3 main_v7
  main_v8
-- ==== Kernel.lean ====
abbrev S4x1024x3 : Shape := ⟨3, ![4, 1024, 3]⟩
abbrev S4x16384x3 : Shape := ⟨3, ![4, 16384, 3]⟩
abbrev S4x16384 : Shape := ⟨2, ![4, 16384]⟩
abbrev S_ : Shape := ⟨0, ![]⟩
abbrev S4x1024 : Shape := ⟨2, ![4, 1024]⟩
abbrev S4x1024x1 : Shape := ⟨3, ![4, 1024, 1]⟩
abbrev S4x1x16384 : Shape := ⟨3, ![4, 1, 16384]⟩
abbrev S4x1024x8 : Shape := ⟨3, ![4, 1024, 8]⟩
abbrev S4x16384x8 : Shape := ⟨3, ![4, 16384, 8]⟩
abbrev S4x8x16384 : Shape := ⟨3, ![4, 8, 16384]⟩
abbrev S4x1024x16384 : Shape := ⟨3, ![4, 1024, 16384]⟩
abbrev S4x1024x64 : Shape := ⟨3, ![4, 1024, 64]⟩
abbrev S1x256x8 : Shape := ⟨3, ![1, 256, 8]⟩
abbrev S1x8x2048 : Shape := ⟨3, ![1, 8, 2048]⟩
abbrev S1x256x1 : Shape := ⟨3, ![1, 256, 1]⟩
abbrev S1x1x2048 : Shape := ⟨3, ![1, 1, 2048]⟩
abbrev S1x256x2048 : Shape := ⟨3, ![1, 256, 2048]⟩
abbrev S256x8 : Shape := ⟨2, ![256, 8]⟩
abbrev S8x2048 : Shape := ⟨2, ![8, 2048]⟩
abbrev S256x2048 : Shape := ⟨2, ![256, 2048]⟩
abbrev S256x1 : Shape := ⟨2, ![256, 1]⟩
abbrev S1x2048 : Shape := ⟨2, ![1, 2048]⟩

abbrev nBuf : Space → Nat
  | .hbm => 34
  | .vmem => 12
  | .smem => 0
  | _ => 0

abbrev bufTy : (tb : Table) → Fin (tcTables nBuf tb) → BufTy
  | .hbm, ⟨0, _⟩ => ⟨S4x1024x3, .f32⟩
  | .hbm, ⟨1, _⟩ => ⟨S4x16384x3, .f32⟩
  | .hbm, ⟨2, _⟩ => ⟨S4x16384, .i32⟩
  | .hbm, ⟨3, _⟩ => ⟨S4x1024x3, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S4x16384x3, .f32⟩
  | .hbm, ⟨8, _⟩ => ⟨S_, .f32⟩
  | .hbm, ⟨9, _⟩ => ⟨S4x16384, .f32⟩
  | .hbm, ⟨10, _⟩ => ⟨S4x1x16384, .f32⟩
  | .hbm, ⟨11, _⟩ => ⟨S_, .f32⟩
  | .hbm, ⟨12, _⟩ => ⟨S4x1024x3, .f32⟩
  | .hbm, ⟨13, _⟩ => ⟨S4x1024x3, .f32⟩
  | .hbm, ⟨14, _⟩ => ⟨S_, .i32⟩
  | .hbm, ⟨15, _⟩ => ⟨S_, .f32⟩
  | .hbm, ⟨16, _⟩ => ⟨S4x1024x8, .f32⟩
  | .hbm, ⟨17, _⟩ => ⟨S4x1024x8, .bf16⟩
  | .hbm, ⟨18, _⟩ => ⟨S_, .i32⟩
  | .hbm, ⟨19, _⟩ => ⟨S_, .f32⟩
  | .hbm, ⟨20, _⟩ => ⟨S4x16384x8, .f32⟩
  | .hbm, ⟨21, _⟩ => ⟨S4x8x16384, .f32⟩
  | .hbm, ⟨22, _⟩ => ⟨S4x8x16384, .bf16⟩
  | .hbm, ⟨23, _⟩ => ⟨S4x1x16384, .i32⟩
  | .hbm, ⟨24, _⟩ => ⟨S4x1024x16384, .f32⟩
  | .hbm, ⟨25, _⟩ => ⟨S4x1024x16384, .f32⟩
  | .hbm, ⟨26, _⟩ => ⟨S4x1024x64, .f32⟩
  | .hbm, ⟨27, _⟩ => ⟨S4x1024x64, .i32⟩
  | .hbm, ⟨28, _⟩ => ⟨S4x1024x64, .f32⟩
  | .hbm, ⟨29, _⟩ => ⟨S4x1024x64, .f32⟩
  | .hbm, ⟨30, _⟩ => ⟨S_, .f32⟩
  | .hbm, ⟨31, _⟩ => ⟨S4x1024x64, .f32⟩
  | .hbm, ⟨32, _⟩ => ⟨S4x1024x64, .i1⟩
  | .hbm, ⟨33, _⟩ => ⟨S4x1024x64, .f32⟩
  | .local _ .vmem, ⟨0, _⟩ => ⟨S1x256x8, .bf16⟩
  | .local _ .vmem, ⟨1, _⟩ => ⟨S1x256x8, .bf16⟩
  | .local _ .vmem, ⟨2, _⟩ => ⟨S1x8x2048, .bf16⟩
  | .local _ .vmem, ⟨3, _⟩ => ⟨S1x8x2048, .bf16⟩
  | .local _ .vmem, ⟨4, _⟩ => ⟨S1x256x1, .f32⟩
  | .local _ .vmem, ⟨5, _⟩ => ⟨S1x256x1, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .i32⟩
  | .local _ .vmem, ⟨9, _⟩ => ⟨S1x1x2048, .i32⟩
  | .local _ .vmem, ⟨10, _⟩ => ⟨S1x256x2048, .f32⟩
  | .local _ .vmem, ⟨11, _⟩ => ⟨S1x256x2048, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_call0_c : Ref sig .tc := ⟨.hbm, 14, rfl⟩
abbrev main_call0_call0_v0 : Ref sig .tc := ⟨.hbm, 15, rfl⟩
abbrev main_call0_v8 : Ref sig .tc := ⟨.hbm, 16, rfl⟩
abbrev main_call0_v9 : Ref sig .tc := ⟨.hbm, 17, rfl⟩
abbrev main_call0_c_2 : Ref sig .tc := ⟨.hbm, 18, rfl⟩
abbrev main_call0_call1_v0 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_values : Ref sig .tc := ⟨.hbm, 26, rfl⟩
abbrev main_v0_0 : Ref sig .tc := ⟨.hbm, 27, rfl⟩
abbrev main_call0_v16 : Ref sig .tc := ⟨.hbm, 28, rfl⟩
abbrev main_call0_v17 : Ref sig .tc := ⟨.hbm, 29, rfl⟩
abbrev main_call0_cst_3 : Ref sig .tc := ⟨.hbm, 30, rfl⟩
abbrev main_call0_v18 : Ref sig .tc := ⟨.hbm, 31, rfl⟩
abbrev main_call0_v19 : Ref sig .tc := ⟨.hbm, 32, rfl⟩
abbrev main_v0_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x1024x3 : Shape := ⟨3, ![4, 1024, 3]⟩
abbrev S4x16384x3 : Shape := ⟨3, ![4, 16384, 3]⟩
abbrev S4x16384 : Shape := ⟨2, ![4, 16384]⟩
abbrev S_ : Shape := ⟨0, ![]⟩
abbrev S4x1024 : Shape := ⟨2, ![4, 1024]⟩
abbrev S4x1024x1 : Shape := ⟨3, ![4, 1024, 1]⟩
abbrev S4x1x16384 : Shape := ⟨3, ![4, 1, 16384]⟩
abbrev S4x1024x16384 : Shape := ⟨3, ![4, 1024, 16384]⟩
abbrev S4x1024x64 : Shape := ⟨3, ![4, 1024, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x16384x3, .f32⟩
  | .hbm, ⟨2, _⟩ => ⟨S4x16384, .i32⟩
  | .hbm, ⟨3, _⟩ => ⟨S4x1024x3, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S4x16384x3, .f32⟩
  | .hbm, ⟨8, _⟩ => ⟨S_, .f32⟩
  | .hbm, ⟨9, _⟩ => ⟨S4x16384, .f32⟩
  | .hbm, ⟨10, _⟩ => ⟨S4x1x16384, .f32⟩
  | .hbm, ⟨11, _⟩ => ⟨S4x1024x16384, .f32⟩
  | .hbm, ⟨12, _⟩ => ⟨S4x1024x16384, .f32⟩
  | .hbm, ⟨13, _⟩ => ⟨S4x1024x16384, .f32⟩
  | .hbm, ⟨14, _⟩ => ⟨S4x1024x16384, .f32⟩
  | .hbm, ⟨15, _⟩ => ⟨S_, .f32⟩
  | .hbm, ⟨16, _⟩ => ⟨S4x1024x16384, .f32⟩
  | .hbm, ⟨17, _⟩ => ⟨S4x1024x16384, .f32⟩
  | .hbm, ⟨18, _⟩ => ⟨S4x1024x16384, .f32⟩
  | .hbm, ⟨19, _⟩ => ⟨S_, .f32⟩
  | .hbm, ⟨20, _⟩ => ⟨S4x1024x16384, .f32⟩
  | .hbm, ⟨21, _⟩ => ⟨S4x1024x16384, .f32⟩
  | .hbm, ⟨22, _⟩ => ⟨S4x1024x16384, .f32⟩
  | .hbm, ⟨23, _⟩ => ⟨S4x1x16384, .i32⟩
  | .hbm, ⟨24, _⟩ => ⟨S_, .i32⟩
  | .hbm, ⟨25, _⟩ => ⟨S4x1x16384, .i32⟩
  | .hbm, ⟨26, _⟩ => ⟨S4x1x16384, .i1⟩
  | .hbm, ⟨27, _⟩ => ⟨S_, .f32⟩
  | .hbm, ⟨28, _⟩ => ⟨S_, .f32⟩
  | .hbm, ⟨29, _⟩ => ⟨S4x1024x16384, .i1⟩
  | .hbm, ⟨30, _⟩ => ⟨S4x1024x16384, .f32⟩
  | .hbm, ⟨31, _⟩ => ⟨S4x1024x16384, .f32⟩
  | .hbm, ⟨32, _⟩ => ⟨S4x1024x16384, .f32⟩
  | .hbm, ⟨33, _⟩ => ⟨S4x1024x64, .f32⟩
  | .hbm, ⟨34, _⟩ => ⟨S4x1024x64, .i32⟩
  | .hbm, ⟨35, _⟩ => ⟨S4x1024x64, .f32⟩
  | .hbm, ⟨36, _⟩ => ⟨S4x1024x64, .f32⟩
  | .hbm, ⟨37, _⟩ => ⟨S_, .f32⟩
  | .hbm, ⟨38, _⟩ => ⟨S4x1024x64, .f32⟩
  | .hbm, ⟨39, _⟩ => ⟨S4x1024x64, .i1⟩
  | .hbm, ⟨40, _⟩ => ⟨S4x1024x64, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩
abbrev main_values : Ref sig .tc := ⟨.hbm, 33, rfl⟩
abbrev main_indices : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Spec.lean ====
/-
  The masked distance between one query point and one key point, as a scalar function of the six coordinates and the
  mask word, in the two forms that occur: the textbook form `|q|² + |k|² − 2 q·k`, and the form in which the factor −2
  multiplies the query's coordinates before the products are taken. For finite coordinates the two forms are the
  same number.
-/
module

public import Idealize.ShloMosaic.PureOps
public import Idealize.ShloMosaic.PureOps.Ideal
public import Idealize.ShloMosaic.PureOps.Ideal.Laws

@[expose] public section

noncomputable section

namespace Cert.Dist

open Idealize.ShloMosaic

/-- An extended real that is a real number. -/
def IsReal (x : EReal) : Prop := x ≠ ⊤ ∧ x ≠ ⊥

/-- The word 0x7F800000 denotes infinity. -/
theorem word_inf : Ideal.ofBits .f32 0x7F800000#32 = ⊤ := by
  simp [Ideal.ofBits, Ideal.ieee]

/-- The word 0x40000000 denotes 2. -/
theorem word_two : Ideal.ofBits .f32 0x40000000#32 = 2 := by
  simp [Ideal.ofBits, Ideal.ieee]
  norm_num
  rw [← EReal.coe_mul, show (8388608 * (1 / 4194304) : ℝ) = 2 by norm_num]
  rfl

/-- The word 0xC0000000 denotes −2. -/
theorem word_neg_two : Ideal.ofBits .f32 0xC0000000#32 = -2 := by
  simp [Ideal.ofBits, Ideal.ieee]
  norm_num
  rw [← EReal.coe_mul, show (8388608 * (1 / 4194304) : ℝ) = 2 by norm_num]
  rfl

/-- The root of a squared distance, negative values cut to zero, and infinity in its place where the mask word is zero. -/
def masked (w : BitVec 32) (d2 : EReal) : EReal :=
  Scalar.select (IntOp.cmpi .eq w 0#32) (⊤ : EReal) (Ideal.sqrt (max d2 0))

/-- The squared distance as `(|q|² + |k|²) − 2 (q·k)`. -/
def sqDist (q k : Fin 3 → EReal) : EReal :=
  ((∑ d, q d * q d) + ∑ d, k d * k d) - 2 * ∑ d, q d * k d

/-- The squared distance as `(|q|² + |k|²) + (−2 q)·k`. -/
def sqDistScaled (q k : Fin 3 → EReal) : EReal :=
  ((∑ d, q d * q d) + ∑ d, k d * k d) + ∑ d, (-2 * q d) * k d

/-- At real coordinates the two forms agree. -/
theorem sqDistScaled_eq (q k : Fin 3 → EReal) (hq : ∀ d, IsReal (q d)) (hk : ∀ d, IsReal (k d)) :
    sqDistScaled q k = sqDist q k := by
  obtain ⟨a, rfl⟩ : ∃ a : Fin 3 → ℝ, q = fun d => (a d : EReal) :=
    ⟨fun d => (q d).toReal, funext fun d => (EReal.coe_toReal (hq d).1 (hq d).2).symm⟩
  obtain ⟨b, rfl⟩ : ∃ b : Fin 3 → ℝ, k = fun d => (b d : EReal) :=
    ⟨fun d => (k d).toReal, funext fun d => (EReal.coe_toReal (hk d).1 (hk d).2).symm⟩
  have h2 : (2 : EReal) = ((2 : ℝ) : EReal) := by norm_cast
  unfold sqDistScaled sqDist
  simp only [Fin.sum_univ_three, h2]
  simp only [← EReal.coe_neg, ← EReal.coe_mul, ← EReal.coe_add, ← EReal.coe_sub]
  congr 1
  ring

end Cert.Dist

end
-- ==== Proof.Finite.lean ====
/-
  What the precondition says: every coordinate of both point sets is a real number.
-/
module

public import proofs.«01_k».proof.Proof.Spec
public import proofs.«01_k».proof.Pre_finite
public import Idealize.ShloMosaic.Lib.ReduceAll
public import Idealize.ShloMosaic.Lib.WordArith
public import Idealize.ShloMosaic.Lib.Pointwise

@[expose] public section

noncomputable section

namespace Cert.Pre_finite.Hand

open Cert.Pre_finite Idealize.ShloMosaic Cert.Dist

/-- The shape relations that the predicate's operations state. -/
theorem facts : Facts := ⟨by decide, by decide, by decide, by decide, by decide⟩

/-- A magnitude below infinity belongs to a real number. -/
theorem isReal_of_lt (x : EReal) (h : Ideal.cmp .olt (max x (-x)) (Ideal.ofBits .f32 0x7F800000#32) = 1#1) : IsReal x := by
  rw [word_inf] at h
  have hlt : max x (-x) < ⊤ := by
    by_contra hn
    simp [Ideal.cmp, hn] at h
  refine ⟨fun e => ?_, fun e => ?_⟩ <;> subst e <;> simp at hlt

variable [Facts]

/-- Where the predicate holds, every coordinate of every query and of every key is a real number. -/
theorem real_of_fn (q : FVec Ideal S4x1024x3 .f32) (k : FVec Ideal S4x16384x3 .f32) (w : IVec S4x16384 32)
    (h : fn (F := Ideal) q k w = fun _ => 1#1) : (∀ i, IsReal (q i)) ∧ ∀ i, IsReal (k i) := by
  have h0 := congrFun h (Shape.Idx.first Facts.h_S_)
  dsimp only [fn] at h0
  obtain ⟨hq, hk⟩ := IntOp.andi_eq_one.1 h0
  refine ⟨fun i => isReal_of_lt _ ?_, fun i => isReal_of_lt _ ?_⟩
  · exact Host.reduce_andi_all _ _ _ _ _ hq i
  · exact Host.reduce_andi_all _ _ _ _ _ hk i

end Cert.Pre_finite.Hand

end
-- ==== Proof.Reference.lean ====
/-
  The reference's array of masked distances, read at an index: the scalar function of Spec.lean.
-/
module

public import proofs.«01_k».proof.Proof.Spec
public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Idealize.ShloMosaic Cert.Dist

/-- The reference's squared distances of all pairs of a query and a key, as its operations compute them. -/
abbrev sqDists (q : FVec Ideal S4x1024x3 .f32) (k : FVec Ideal S4x16384x3 .f32) : FVec Ideal S4x1024x16384 .f32 :=
  subf
    (addf
      (broadcastInDim S4x1024x16384 ![0, 1, 2] bcast_S4x1024x1_S4x1024x16384_0_1_2
        (broadcastInDim S4x1024x1 ![0, 1] bcast_S4x1024_S4x1024x1_0_1
          (Host.reduceAdd (mulf q q) (constant S_ .f32 0x00000000#32) reducesTo_S4x1024x3_S4x1024_d2 h_S_)))
      (broadcastInDim S4x1024x16384 ![0, 1, 2] bcast_S4x1x16384_S4x1024x16384_0_1_2
        (broadcastInDim S4x1x16384 ![0, 2] bcast_S4x16384_S4x1x16384_0_2
          (Host.reduceAdd (mulf k k) (constant S_ .f32 0x00000000#32) reducesTo_S4x16384x3_S4x16384_d2 h_S_))))
    (mulf (broadcastInDim S4x1024x16384 ![] bcast_S_S4x1024x16384 (constant S_ .f32 0x40000000#32))
      (Host.dotGeneral dot_S4x1024x3_S4x16384x3_S4x1024x16384_2_2_1_1_0_0 none q k))

/-- The reference's masked distances, as its operations compute them. -/
abbrev dists (q : FVec Ideal S4x1024x3 .f32) (k : FVec Ideal S4x16384x3 .f32) (w : IVec S4x16384 32) :
    FVec Ideal S4x1024x16384 .f32 :=
  select
    (broadcastInDim S4x1024x16384 ![0, 1, 2] bcast_S4x1x16384_S4x1024x16384_0_1_2
      (cmpi .eq (broadcastInDim S4x1x16384 ![0, 2] bcast_S4x16384_S4x1x16384_0_2 w)
        (broadcastInDim S4x1x16384 ![] bcast_S_S4x1x16384 (constantI S_ 32 0#32))))
    (broadcastInDim S4x1024x16384 ![] bcast_S_S4x1024x16384 (id (constant S_ .f32 0x7F800000#32)))
    (Host.sqrt (maximumf (sqDists q k) (broadcastInDim S4x1024x16384 ![] bcast_S_S4x1024x16384 (constant S_ .f32 0x00000000#32))))

/-- At a pair of a query and a key the reference's squared distance is the textbook form. -/
theorem sqDists_apply (q : FVec Ideal S4x1024x3 .f32) (k : FVec Ideal S4x16384x3 .f32) (j : S4x1024x16384.Idx) :
    sqDists q k j = sqDist (fun d => q (ix3 (j 0) (j 1) d)) (fun d => k (ix3 (j 0) (j 2) d)) := by
  unfold sqDists sqDist
  pointwise [word_two]

/-- At a pair of a query and a key the reference holds the masked textbook distance. -/
theorem dists_apply (q : FVec Ideal S4x1024x3 .f32) (k : FVec Ideal S4x16384x3 .f32) (w : IVec S4x16384 32) (j : S4x1024x16384.Idx) :
    dists q k w j = masked (w (ix2 (j 0) (j 2))) (sqDist (fun d => q (ix3 (j 0) (j 1) d)) (fun d => k (ix3 (j 0) (j 2) d))) := by
  rw [← sqDists_apply]
  unfold dists masked
  generalize sqDists q k = D
  pointwise [id_eq, word_inf]

end Cert.ReferenceIdeal.Hand

end
-- ==== Proof.Block.lean ====
/-
  What one grid point of the kernel stores, read at an index of its block.
-/
module

public import proofs.«01_k».proof.Proof.Spec
public import proofs.«01_k».proof.Proof.Gen.KernelIdeal.Skeleton
public import Idealize.ShloMosaic.Lib.Pointwise

@[expose] public section

noncomputable section

namespace Cert.KernelIdeal.Hand

open Cert.KernelIdeal Cert.KernelIdeal.Gen Idealize.ShloMosaic Cert.Dist

/-- Entry (r, l) of the stored block: the masked distance that the block's query row r and key column l give, the product
    running over the eight padded coordinates. -/
theorem block_apply (q : FVec Ideal S1x256x8 .bf16) (k : FVec Ideal S1x8x2048 .bf16) (qn : FVec Ideal S1x256x1 .f32)
    (kn : FVec Ideal S1x1x2048 .f32) (w : IVec S1x1x2048 32) (j : S1x256x2048.Idx) :
    k0_pay1 (F := Ideal) q k qn kn w j = masked (w (ix3 0 0 (j 2)))
      ((qn (ix3 0 (j 1) 0) + kn (ix3 0 0 (j 2))) + ∑ e : Fin 8, q (ix3 0 (j 1) e) * k (ix3 0 e (j 2))) := by
  obtain ⟨u, r, l, rfl⟩ : ∃ u r l, j = ix3 u r l := ⟨j 0, j 1, j 2, eq_ix3 j⟩
  unfold k0_pay1 masked
  pointwise [word_inf]

end Cert.KernelIdeal.Hand

end
-- ==== Proof.Entry.lean ====
/-
  The five arrays the kernel's region reads, as terms of the arguments: what the host operations before the region
  leave in them.
-/
module

public import proofs.«01_k».proof.Proof.Gen.KernelIdeal.Frame
public import proofs.«01_k».proof.Proof.Spec
public import Idealize.ShloMosaic.Lib.Pointwise

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The query points, as launched. -/
abbrev qArg (c : Dev nD) : FVec Ideal S4x1024x3 .f32 := m ((c : Thread nD τ).loc main_arg0)
/-- The key points, as launched. -/
abbrev kArg (c : Dev nD) : FVec Ideal S4x16384x3 .f32 := m ((c : Thread nD τ).loc main_arg1)
/-- The mask words, as launched. -/
abbrev wArg (c : Dev nD) : IVec S4x16384 32 := m ((c : Thread nD τ).loc main_arg2)

/-- The padded queries as the region finds them. -/
abbrev qIn (c : Dev nD) : FVec Ideal S4x1024x8 .bf16 := V m c main_call0_v9
/-- The padded keys as the region finds them. -/
abbrev kIn (c : Dev nD) : FVec Ideal S4x8x16384 .bf16 := V m c main_call0_v12
/-- The queries' squared norms as the region finds them. -/
abbrev qnIn (c : Dev nD) : FVec Ideal S4x1024x1 .f32 := V m c main_call0_v2
/-- The keys' squared norms as the region finds them. -/
abbrev knIn (c : Dev nD) : FVec Ideal S4x1x16384 .f32 := V m c main_call0_v5
/-- The mask words as the region finds them. -/
abbrev wIn (c : Dev nD) : IVec S4x1x16384 32 := V m c main_call0_v13

/-- The queries' squared norms. -/
theorem entry_qnorm (c : Dev nD) : qnIn m c =
    broadcastInDim S4x1024x1 ![0, 1] bcast_S4x1024_S4x1024x1_0_1
      (Host.reduceAdd (mulf (qArg m c) (qArg m c)) (constant S_ .f32 0x00000000#32) reducesTo_S4x1024x3_S4x1024_d2 h_S_) := by
  unfold qnIn V V0
  simp only [List.flatten_cons, List.flatten_nil, List.append_nil, hostOps0, StableHlo.TRef.nullary, StableHlo.TRef.unary, StableHlo.TRef.binary, StableHlo.TRef.toBuf, StableHlo.TRef.ofBuf, cast_eq]
  after_results_simp

/-- The keys' squared norms. -/
theorem entry_knorm (c : Dev nD) : knIn m c =
    broadcastInDim S4x1x16384 ![0, 2] bcast_S4x16384_S4x1x16384_0_2
      (Host.reduceAdd (mulf (kArg m c) (kArg m c)) (constant S_ .f32 0x00000000#32) reducesTo_S4x16384x3_S4x16384_d2 h_S_) := by
  unfold knIn V V0
  simp only [List.flatten_cons, List.flatten_nil, List.append_nil, hostOps0, StableHlo.TRef.nullary, StableHlo.TRef.unary, StableHlo.TRef.binary, StableHlo.TRef.toBuf, StableHlo.TRef.ofBuf, cast_eq]
  after_results_simp
/-- The queries times −2, padded with zeros to eight coordinates. -/
theorem entry_query (c : Dev nD) : qIn m c =
    truncf .bf16 (pad S4x1024x8 ![0, 0, 0] ![0, 0, 5] ![0, 0, 0]
      (mulf (broadcastInDim S4x1024x3 ![] bcast_S_S4x1024x3 (constant S_ .f32 0xC0000000#32)) (qArg m c))
      (sitofp .f32 (constantI S_ 32 0#32) : FVec Ideal S_ .f32) pads_S4x1024x3_S4x1024x8_000_000_050 h_S_) bitsLt_bf16_f32 := by
  unfold qIn V V0
  simp only [List.flatten_cons, List.flatten_nil, List.append_nil, hostOps0, StableHlo.TRef.nullary, StableHlo.TRef.unary, StableHlo.TRef.binary, StableHlo.TRef.toBuf, StableHlo.TRef.ofBuf, cast_eq]
  after_results_simp
/-- The keys padded with zeros to eight coordinates, coordinates before points. -/
theorem entry_key (c : Dev nD) : kIn m c =
    truncf .bf16 (transpose S4x8x16384 [0, 2, 1] (pad S4x16384x8 ![0, 0, 0] ![0, 0, 5] ![0, 0, 0] (kArg m c)
      (sitofp .f32 (constantI S_ 32 0#32) : FVec Ideal S_ .f32) pads_S4x16384x3_S4x16384x8_000_000_050 h_S_)
      transposes_S4x16384x8_S4x8x16384_0_2_1) bitsLt_bf16_f32 := by
  unfold kIn V V0
  simp only [List.flatten_cons, List.flatten_nil, List.append_nil, hostOps0, StableHlo.TRef.nullary, StableHlo.TRef.unary, StableHlo.TRef.binary, StableHlo.TRef.toBuf, StableHlo.TRef.ofBuf, cast_eq]
  after_results_simp
/-- The mask words. -/
theorem entry_mask (c : Dev nD) : wIn m c =
    broadcastInDim S4x1x16384 ![0, 2] bcast_S4x16384_S4x1x16384_0_2 (wArg m c) := by
  unfold wIn V V0
  simp only [List.flatten_cons, List.flatten_nil, List.append_nil, hostOps0, StableHlo.TRef.nullary, StableHlo.TRef.unary, StableHlo.TRef.binary, StableHlo.TRef.toBuf, StableHlo.TRef.ofBuf, cast_eq]
  after_results_simp

open Cert.Dist

/-- A query's squared norm, read at a query. -/
theorem qnorm_apply (c : Dev nD) (b : Fin 4) (g : Fin 1024) :
    qnIn m c (ix3 b g 0) = ∑ d, qArg m c (ix3 b g d) * qArg m c (ix3 b g d) := by
  rw [entry_qnorm]
  pointwise

/-- A key's squared norm, read at a key. -/
theorem knorm_apply (c : Dev nD) (b : Fin 4) (n : Fin 16384) :
    knIn m c (ix3 b 0 n) = ∑ d, kArg m c (ix3 b n d) * kArg m c (ix3 b n d) := by
  rw [entry_knorm]
  pointwise

/-- A mask word, read at a key. -/
theorem mask_apply (c : Dev nD) (b : Fin 4) (n : Fin 16384) :
    wIn m c (ix3 b 0 n) = wArg m c (ix2 b n) := by
  rw [entry_mask]
  pointwise

/-- The product over the eight padded coordinates is the product over the three coordinates: the five others are zero. -/
theorem product_apply (c : Dev nD) (b : Fin 4) (g : Fin 1024) (n : Fin 16384) :
    ∑ e : Fin 8, qIn m c (ix3 b g e) * kIn m c (ix3 b e n)
      = ∑ d, (-2 * qArg m c (ix3 b g d)) * kArg m c (ix3 b n d) := by
  have h0 : (FloatOps.sitofp .f32 (0#32) : Ideal .f32) = (0 : EReal) := by
    show (((0#32 : BitVec 32).toInt : ℝ) : EReal) = 0
    simp
  rw [entry_query, entry_key]
  rw [Fin.sum_univ_eight, Fin.sum_univ_three]
  pointwise [word_neg_two]
  simp only [h0, mul_zero, add_zero]

end Cert.KernelIdeal.Hand

end
-- ==== Proof.Tail.lean ====
/-
  What the host operations after the kernel's region leave in the two results, as terms of the region's output array.
-/
module

public import proofs.«01_k».proof.Proof.Gen.KernelIdeal.Frame
public import Idealize.ShloMosaic.PureOps.Ideal

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The pairs (greatest value, its index) of the negated distances: the 64 nearest keys of every query. -/
abbrev top (D : FVec Ideal S4x1024x16384 .f32) : FVec Ideal S4x1024x64 .f32 × IVec S4x1024x64 32 :=
  Host.topK S4x1024x64 2 (FloatOps.cmpfTotal .gt) (Host.negf D) sliceFits_S4x1024x16384_S4x1024x64

/-- One where the negated value is a distance below infinity, zero elsewhere. -/
abbrev near (v : FVec Ideal S4x1024x64 .f32) : FVec Ideal S4x1024x64 .f32 :=
  uitofp .f32 (cmpf .olt (Host.absf (Host.negf v)) (broadcastInDim S4x1024x64 ![] bcast_S_S4x1024x64 (constant S_ .f32 0x7F800000#32)))

/-- The distances as the region leaves them. -/
abbrev outArr (c : Dev nD) : FVec Ideal S4x1024x16384 .f32 := (dats m 0 c).arrAt 5 cfg0.N

/-- The region's output array, read where the operations after the region read it. -/
theorem region_out (c : Dev nD) :
    Pipeline.withArrays (cfgs 0).spec c (V0 m c) (fun w => (dats m 0 c).arrAt w (cfgs 0).N) (Proc.devRef .tc main_call0_v14)
      = outArr m c :=
  Pipeline.withArrays_arr spec0 winFacts0.arr_inj c _ (fun w => (dats m 0 c).arrAt w (cfgs 0).N) 5

/-- The first result: the indices of the nearest keys. -/
theorem tail_indices (c : Dev nD) :
    Pipeline.afterTail₀ cfgs (dats m) 0 (V0 m) [hostOps1] c main_v0_0 = (top (outArr m c)).2 := by
  unfold Pipeline.afterTail₀
  simp only [List.flatten_cons, List.flatten_nil, List.append_nil, hostOps1, StableHlo.TRef.nullary, StableHlo.TRef.unary, StableHlo.TRef.binary, StableHlo.TRef.toBuf, StableHlo.TRef.ofBuf, cast_eq]
  after_results_simp
  exact congrArg (fun D => (top D).2) (region_out m c)

/-- The second result: one where the neighbour is at a finite distance, zero elsewhere. -/
theorem tail_valid (c : Dev nD) :
    Pipeline.afterTail₀ cfgs (dats m) 0 (V0 m) [hostOps1] c main_v0_1
      = near (top (outArr m c)).1 := by
  unfold Pipeline.afterTail₀
  simp only [List.flatten_cons, List.flatten_nil, List.append_nil, hostOps1, StableHlo.TRef.nullary, StableHlo.TRef.unary, StableHlo.TRef.binary, StableHlo.TRef.toBuf, StableHlo.TRef.ofBuf, cast_eq]
  after_results_simp
  exact congrArg (fun D => near (top D).1) (region_out m c)

/-- The run: the two results are those terms of the region's output array, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (top (outArr m c)).2
      ∧ r.2.mem ((c : Thread nD τ).loc main_v0_1) = near (top (outArr m c)).1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v0_0 (Pipeline.mem_restRefs_of _ (by decide) (by decide))).trans (tail_indices m c),
      ((h c).2 main_v0_1 (Pipeline.mem_restRefs_of _ (by decide) (by decide))).trans (tail_valid m c),
      ((h c).2 main_arg0 (Pipeline.mem_restRefs_of _ (by decide) (by decide))).trans (W_main_arg0 m (dats m) c),
      ((h c).2 main_arg1 (Pipeline.mem_restRefs_of _ (by decide) (by decide))).trans (W_main_arg1 m (dats m) c),
      ((h c).2 main_arg2 (Pipeline.mem_restRefs_of _ (by decide) (by decide))).trans (W_main_arg2 m (dats m) c)⟩)
    (run_main m ρ)

end Cert.KernelIdeal.Hand

end
-- ==== Proof.Array.lean ====
/-
  The kernel's output array after the run: every grid point writes its block of one function of the arrays that the region
  reads, and the blocks fill the array.
-/
module

public import proofs.«01_k».proof.Proof.Spec
public import proofs.«01_k».proof.Proof.Block
public import proofs.«01_k».proof.Proof.Entry
public import proofs.«01_k».proof.Proof.Tail
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem Cert.Dist
open Idealize.ShloMosaic.Pipeline (Dat)

variable (m : (ℓ : Loc nD τ sig) → Buf (Elt Ideal) ℓ)

/-- The masked distance of query (b, g) and key (b, n), from the arrays as the region finds them. -/
def cell (c : Dev nD) (b : Fin 4) (g : Fin 1024) (n : Fin 16384) : EReal :=
  masked (wIn m c (ix3 b 0 n))
    ((qnIn m c (ix3 b g 0) + knIn m c (ix3 b 0 n)) + ∑ e : Fin 8, qIn m c (ix3 b g e) * kIn m c (ix3 b e n))

/-- The whole array of them. -/
def cells (c : Dev nD) : FVec Ideal S4x1024x16384 .f32 := fun j => cell m c (j 0) (j 1) (j 2)

/-- The blocks of the six windows at one grid point, relative to the output's: queries and their norms follow the first
    two coordinates, keys, their norms and the mask the first and the third. -/
theorem index_facts : ∀ t : Fin grid0.N,
    (win0_0.index t 0 = win0_5.index t 0 ∧ win0_0.index t 1 = win0_5.index t 1 ∧ win0_0.index t 2 = 0)
    ∧ (win0_1.index t 0 = win0_5.index t 0 ∧ win0_1.index t 1 = 0 ∧ win0_1.index t 2 = win0_5.index t 2)
    ∧ (win0_2.index t 0 = win0_5.index t 0 ∧ win0_2.index t 1 = win0_5.index t 1 ∧ win0_2.index t 2 = 0)
    ∧ (win0_3.index t 0 = win0_5.index t 0 ∧ win0_3.index t 1 = 0 ∧ win0_3.index t 2 = win0_5.index t 2)
    ∧ (win0_4.index t 0 = win0_5.index t 0 ∧ win0_4.index t 1 = 0 ∧ win0_4.index t 2 = win0_5.index t 2) := by
  decide +kernel

/-- Every triple of block coordinates is some grid point's output block. -/
theorem index_onto : ∀ (b : Fin 4) (g : Fin 4) (n : Fin 8), ∃ t : Fin grid0.N,
    win0_5.index t 0 = b.val ∧ win0_5.index t 1 = g.val ∧ win0_5.index t 2 = n.val := by
  decide +kernel

/-- A block is loaded and stored from its first element. -/
theorem zero_offset : (![0, 0, 0] : Fin 3 → Nat) = fun _ => 0 := funext fun a => by fin_cases a <;> rfl

/-- Entry (r, e) of a point's block of padded queries, in the array's coordinates of the output index that the block covers. -/
theorem query_block (c : Dev nD) (t : Fin cfg0.N) (j : S1x256x2048.Idx) (e : Fin 8) :
    (iblk m c 0 t : FVec Ideal S1x256x8 .bf16) (ix3 0 (j 1) e)
      = qIn m c (ix3 ((win0_5.rect t).emb j 0) ((win0_5.rect t).emb j 1) e) := by
  have h := (index_facts t).1
  have hu : (j 0).val < 1 := (j 0).isLt
  show qIn m c ((win0_0.rect t).emb (ix3 0 (j 1) e)) = _
  refine congrArg (qIn m c) (funext fun a => Fin.ext ?_)
  rw [win0_0.rect_emb_val]
  fin_cases a
  · show win0_0.index t 0 * 1 + 0 = ((win0_5.rect t).emb j 0 : Nat)
    rw [win0_5.rect_emb_val, h.1]
    show _ = win0_5.index t 0 * 1 + (j 0).val
    omega
  · show win0_0.index t 1 * 256 + (j 1).val = ((win0_5.rect t).emb j 1 : Nat)
    rw [win0_5.rect_emb_val, h.2.1]
    rfl
  · show win0_0.index t 2 * 8 + e.val = e.val
    rw [h.2.2]
    omega

/-- Entry (e, l) of a point's block of padded keys. -/
theorem key_block (c : Dev nD) (t : Fin cfg0.N) (j : S1x256x2048.Idx) (e : Fin 8) :
    (iblk m c 1 t : FVec Ideal S1x8x2048 .bf16) (ix3 0 e (j 2))
      = kIn m c (ix3 ((win0_5.rect t).emb j 0) e ((win0_5.rect t).emb j 2)) := by
  have h := (index_facts t).2.1
  have hu : (j 0).val < 1 := (j 0).isLt
  show kIn m c ((win0_1.rect t).emb (ix3 0 e (j 2))) = _
  refine congrArg (kIn m c) (funext fun a => Fin.ext ?_)
  rw [win0_1.rect_emb_val]
  fin_cases a
  · show win0_1.index t 0 * 1 + 0 = ((win0_5.rect t).emb j 0 : Nat)
    rw [win0_5.rect_emb_val, h.1]
    show _ = win0_5.index t 0 * 1 + (j 0).val
    omega
  · show win0_1.index t 1 * 8 + e.val = e.val
    rw [h.2.1]
    omega
  · show win0_1.index t 2 * 2048 + (j 2).val = ((win0_5.rect t).emb j 2 : Nat)
    rw [win0_5.rect_emb_val, h.2.2]
    rfl

/-- Row r of a point's block of the queries' squared norms. -/
theorem qnorm_block (c : Dev nD) (t : Fin cfg0.N) (j : S1x256x2048.Idx) :
    (iblk m c 2 t : FVec Ideal S1x256x1 .f32) (ix3 0 (j 1) 0)
      = qnIn m c (ix3 ((win0_5.rect t).emb j 0) ((win0_5.rect t).emb j 1) 0) := by
  have h := (index_facts t).2.2.1
  have hu : (j 0).val < 1 := (j 0).isLt
  show qnIn m c ((win0_2.rect t).emb (ix3 0 (j 1) 0)) = _
  refine congrArg (qnIn m c) (funext fun a => Fin.ext ?_)
  rw [win0_2.rect_emb_val]
  fin_cases a
  · show win0_2.index t 0 * 1 + 0 = ((win0_5.rect t).emb j 0 : Nat)
    rw [win0_5.rect_emb_val, h.1]
    show _ = win0_5.index t 0 * 1 + (j 0).val
    omega
  · show win0_2.index t 1 * 256 + (j 1).val = ((win0_5.rect t).emb j 1 : Nat)
    rw [win0_5.rect_emb_val, h.2.1]
    rfl
  · show win0_2.index t 2 * 1 + 0 = 0
    rw [h.2.2]

/-- Column l of a point's block of the keys' squared norms. -/
theorem knorm_block (c : Dev nD) (t : Fin cfg0.N) (j : S1x256x2048.Idx) :
    (iblk m c 3 t : FVec Ideal S1x1x2048 .f32) (ix3 0 0 (j 2))
      = knIn m c (ix3 ((win0_5.rect t).emb j 0) 0 ((win0_5.rect t).emb j 2)) := by
  have h := (index_facts t).2.2.2.1
  have hu : (j 0).val < 1 := (j 0).isLt
  show knIn m c ((win0_3.rect t).emb (ix3 0 0 (j 2))) = _
  refine congrArg (knIn m c) (funext fun a => Fin.ext ?_)
  rw [win0_3.rect_emb_val]
  fin_cases a
  · show win0_3.index t 0 * 1 + 0 = ((win0_5.rect t).emb j 0 : Nat)
    rw [win0_5.rect_emb_val, h.1]
    show _ = win0_5.index t 0 * 1 + (j 0).val
    omega
  · show win0_3.index t 1 * 1 + 0 = 0
    rw [h.2.1]
  · show win0_3.index t 2 * 2048 + (j 2).val = ((win0_5.rect t).emb j 2 : Nat)
    rw [win0_5.rect_emb_val, h.2.2]
    rfl

/-- Column l of a point's block of the mask words: the window moves as that of the keys' norms does. -/
theorem mask_block (c : Dev nD) (t : Fin cfg0.N) (j : S1x256x2048.Idx) :
    (iblk m c 4 t : IVec S1x1x2048 32) (ix3 0 0 (j 2))
      = wIn m c (ix3 ((win0_5.rect t).emb j 0) 0 ((win0_5.rect t).emb j 2)) := by
  have h := (index_facts t).2.2.2.2
  have hu : (j 0).val < 1 := (j 0).isLt
  show wIn m c ((win0_4.rect t).emb (ix3 0 0 (j 2))) = _
  refine congrArg (wIn m c) (funext fun a => Fin.ext ?_)
  rw [win0_4.rect_emb_val]
  fin_cases a
  · show win0_4.index t 0 * 1 + 0 = ((win0_5.rect t).emb j 0 : Nat)
    rw [win0_5.rect_emb_val, h.1]
    show _ = win0_5.index t 0 * 1 + (j 0).val
    omega
  · show win0_4.index t 1 * 1 + 0 = 0
    rw [h.2.1]
  · show win0_4.index t 2 * 2048 + (j 2).val = ((win0_5.rect t).emb j 2 : Nat)
    rw [win0_5.rect_emb_val, h.2.2]
    rfl

/-- What a grid point computes of its five blocks, at an index of its output block. -/
theorem point_cell (c : Dev nD) (t : Fin cfg0.N) (j : S1x256x2048.Idx) :
    k0_pay1 (F := Ideal) (iblk m c 0 t : FVec Ideal S1x256x8 .bf16) (iblk m c 1 t : FVec Ideal S1x8x2048 .bf16)
        (iblk m c 2 t : FVec Ideal S1x256x1 .f32) (iblk m c 3 t : FVec Ideal S1x1x2048 .f32)
        (iblk m c 4 t : IVec S1x1x2048 32) j
      = cell m c ((win0_5.rect t).emb j 0) ((win0_5.rect t).emb j 1) ((win0_5.rect t).emb j 2) := by
  refine (block_apply _ _ _ _ _ j).trans ?_
  unfold cell
  refine congr (congrArg masked (mask_block m c t j)) ?_
  refine congr (congrArg HAdd.hAdd (congr (congrArg HAdd.hAdd (qnorm_block m c t j)) (knorm_block m c t j))) ?_
  exact Finset.sum_congr rfl fun e _ => congr (congrArg HMul.hMul (query_block m c t j e)) (key_block m c t j e)

/-- What a grid point writes back is its block of `cells`. -/
theorem flushed_cells (c : Dev nD) (t : Fin cfg0.N) :
    (dats m 0 c).flushed 5 t = ((cfg0.win 5).blk t).view.read (Elt Ideal) (cells m c) := by
  show (cfg0.win 5).cut (grid0.coords t) ((dats m 0 c).after 5 t) = _
  rw [after0_5]
  unfold out0_5
  rw [View.canon_unit_zero zero_offset, View.ld_unit_zero zero_offset, View.ld_unit_zero zero_offset,
    View.ld_unit_zero zero_offset, View.ld_unit_zero zero_offset, View.ld_unit_zero zero_offset]
  generalize hp : k0_pay1 (F := Ideal) (iblk m c 0 t : FVec Ideal S1x256x8 .bf16) (iblk m c 1 t : FVec Ideal S1x8x2048 .bf16)
    (iblk m c 2 t : FVec Ideal S1x256x1 .f32) (iblk m c 3 t : FVec Ideal S1x1x2048 .f32) (iblk m c 4 t : IVec S1x1x2048 32) = p
  have hc : ∀ j, p j = cells m c ((win0_5.rect t).emb j) := fun j => (congrFun hp j).symm.trans (point_cell m c t j)
  generalize cells m c = G at hc ⊢
  exact funext fun j => hc j

/-- Every index of the output array lies in some grid point's block. -/
theorem covered (i : S4x1024x16384.Idx) :
    ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 16384 := (i 2).isLt
  obtain ⟨t, e0, e1, e2⟩ := index_onto ⟨(i 0).val, h0⟩ ⟨(i 1).val / 256, by omega⟩ ⟨(i 2).val / 2048, by omega⟩
  refine ⟨t, flush0_5 t, ?_⟩
  show i ∈ ((View.whole main_call0_v14).slice (win0_5.rect t)).set
  rw [View.set_slice_whole, Rect.mem_set_unit]
  intro a
  fin_cases a
  · show win0_5.index t 0 * 1 ≤ (i 0).val ∧ (i 0).val < win0_5.index t 0 * 1 + 1
    rw [e0]
    exact ⟨by simp, by simp⟩
  · show win0_5.index t 1 * 256 ≤ (i 1).val ∧ (i 1).val < win0_5.index t 1 * 256 + 256
    rw [e1]
    exact ⟨by simp only; omega, by simp only; omega⟩
  · show win0_5.index t 2 * 2048 ≤ (i 2).val ∧ (i 2).val < win0_5.index t 2 * 2048 + 2048
    rw [e2]
    exact ⟨by simp only; omega, by simp only; omega⟩

/-- After the region the output array holds `cells`. -/
theorem outArr_eq (c : Dev nD) : outArr m c = cells m c :=
  (dats m 0 c).arrAt_eq_of_cover 5 (cells m c) (fun t _ => flushed_cells m c t) covered

/-- A cell, from the arguments: the masked distance with the factor −2 on the query's coordinates. -/
theorem cell_eq (c : Dev nD) (b : Fin 4) (g : Fin 1024) (n : Fin 16384) :
    cell m c b g n = masked (wArg m c (ix2 b n))
      (sqDistScaled (fun d => qArg m c (ix3 b g d)) (fun d => kArg m c (ix3 b n d))) := by
  unfold cell sqDistScaled
  rw [mask_apply, qnorm_apply, knorm_apply, product_apply]

end Cert.KernelIdeal.Hand

end
-- ==== Proof.lean ====
/-
  The proof of `Cert.Claim`: the frames of the kernel, of its ideal program and of the reference, and the equality of the
  two results over the extended reals, for finite coordinates.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.Reference
public import proofs.«01_k».proof.Proof.Array
public import Idealize.ShloMosaic.Adequacy
public import Idealize.ShloMosaic.Init

@[expose] public section

noncomputable section

namespace Cert.Proof

open Idealize.ShloMosaic Idealize.ShloMosaic.TcCoe Idealize.SL.Sem

/-- For finite coordinates the array that the kernel's region leaves is the reference's array of masked distances of the
    same arguments. -/
theorem arrays_eq [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.KernelIdeal.Hand.outArr m c
      = Cert.ReferenceIdeal.Hand.dists (Cert.KernelIdeal.Hand.qArg m c) (Cert.KernelIdeal.Hand.kArg m c)
          (Cert.KernelIdeal.Hand.wArg m c) := by
  obtain ⟨hq, hk⟩ := Cert.Pre_finite.Hand.real_of_fn _ _ _ (h c)
  rw [Cert.KernelIdeal.Hand.outArr_eq]
  funext j
  rw [Cert.ReferenceIdeal.Hand.dists_apply]
  refine (Cert.KernelIdeal.Hand.cell_eq m c _ _ _).trans (congrArg (Cert.Dist.masked _) ?_)
  exact Cert.Dist.sqDistScaled_eq _ _ (fun d => hq _) (fun d => hk _)

/-- The reference ends with its arguments unchanged and every counter at zero: it has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2, Idealize.ShloMosaic.sem_eq_zero_of_no_sems (by decide) r.2⟩)
    (Cert.ReferenceIdeal.Value.run m ρ)

/-- Both programs end with the same indices and the same flags: top-64 and the test for infinity, applied to equal arrays. -/
theorem value [Cert.Pre_finite.Facts] : Cert.algebraic_KernelIdeal_ReferenceIdeal_pre_finite := by
  intro m g m' g' hpre hargs
  refine ⟨fun c => (Cert.KernelIdeal.Hand.top (Cert.KernelIdeal.Hand.outArr m c)).2,
    fun c => Cert.KernelIdeal.Hand.near (Cert.KernelIdeal.Hand.top (Cert.KernelIdeal.Hand.outArr m c)).1,
    Cert.KernelIdeal.Hand.run m g, ?_⟩
  refine (θ_run _ _ _).mono (fun r h c => ?_) (Cert.ReferenceIdeal.Value.run m' g')
  obtain ⟨h0, h1, ha⟩ := h c
  obtain ⟨e0, e1, e2⟩ := hargs c
  rw [e0, e1, e2] at h0 h1
  have e := arrays_eq m hpre c
  exact ⟨h0.trans (congrArg (fun D => (Cert.KernelIdeal.Hand.top D).2) e.symm),
    h1.trans (congrArg (fun D => Cert.KernelIdeal.Hand.near (Cert.KernelIdeal.Hand.top D).1) e.symm), ha⟩

/-- Everything that is claimed. -/
theorem claim : Cert.Claim :=
  ⟨Cert.Kernel.Gen.facts, Cert.KernelIdeal.Gen.facts, Cert.ReferenceIdeal.Gen.facts, Cert.Pre_finite.Hand.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    @value Cert.Pre_finite.Hand.facts⟩

end Cert.Proof

end
